-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_v17) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x64x32x32 : Shape := ⟨4, ![16, 64, 32, 32]⟩
abbrev S1024x64 : Shape := ⟨2, ![1024, 64]⟩
abbrev S16x64x1024 : Shape := ⟨3, ![16, 64, 1024]⟩
abbrev S16384x1024 : Shape := ⟨2, ![16384, 1024]⟩
abbrev S8x1x1024 : Shape := ⟨3, ![8, 1, 1024]⟩
abbrev S8x1x1 : Shape := ⟨3, ![8, 1, 1]⟩
abbrev S1x1 : Shape := ⟨2, ![1, 1]⟩
abbrev S_ : Shape := ⟨0, ![]⟩
abbrev S2x64x1024 : Shape := ⟨3, ![2, 64, 1024]⟩
abbrev S2048x1024 : Shape := ⟨2, ![2048, 1024]⟩
abbrev S1x1x1024 : Shape := ⟨3, ![1, 1, 1024]⟩
abbrev S1x1x1 : Shape := ⟨3, ![1, 1, 1]⟩
abbrev S1x64x1024 : Shape := ⟨3, ![1, 64, 1024]⟩
abbrev S64x1024 : Shape := ⟨2, ![64, 1024]⟩
abbrev S64x2048 : Shape := ⟨2, ![64, 2048]⟩
abbrev S2048x64 : Shape := ⟨2, ![2048, 64]⟩
abbrev S2048 : Shape := ⟨1, ![2048]⟩
abbrev S2048x1 : Shape := ⟨2, ![2048, 1]⟩
abbrev S1024 : Shape := ⟨1, ![1024]⟩
abbrev S1x1024 : Shape := ⟨2, ![1, 1024]⟩
abbrev S1x64x2048 : Shape := ⟨3, ![1, 64, 2048]⟩
abbrev S1 : Shape := ⟨1, ![1]⟩

abbrev nBuf : Space → Nat
  | .hbm => 12
  | .vmem => 10
  | .smem => 5
  | _ => 0

abbrev bufTy : (tb : Table) → Fin (tcTables nBuf tb) → BufTy
  | .hbm, ⟨0, _⟩ => ⟨S16x64x32x32, .f32⟩
  | .hbm, ⟨1, _⟩ => ⟨S1024x64, .f32⟩
  | .hbm, ⟨2, _⟩ => ⟨S16x64x1024, .f32⟩
  | .hbm, ⟨3, _⟩ => ⟨S16384x1024, .f32⟩
  | .hbm, ⟨4, _⟩ => ⟨S16x64x1024, .f32⟩
  | .hbm, ⟨5, _⟩ => ⟨S8x1x1024, .f32⟩
  | .hbm, ⟨6, _⟩ => ⟨S8x1x1, .f32⟩
  | .hbm, ⟨7, _⟩ => ⟨S1x1, .f32⟩
  | .hbm, ⟨8, _⟩ => ⟨S1x1, .f32⟩
  | .hbm, ⟨9, _⟩ => ⟨S16x64x32x32, .f32⟩
  | .hbm, ⟨10, _⟩ => ⟨S_, .f32⟩
  | .hbm, ⟨11, _⟩ => ⟨S_, .f32⟩
  | .local _ .vmem, ⟨0, _⟩ => ⟨S2x64x1024, .f32⟩
  | .local _ .vmem, ⟨1, _⟩ => ⟨S2x64x1024, .f32⟩
  | .local _ .vmem, ⟨2, _⟩ => ⟨S1024x64, .f32⟩
  | .local _ .vmem, ⟨3, _⟩ => ⟨S2048x1024, .f32⟩
  | .local _ .vmem, ⟨4, _⟩ => ⟨S2048x1024, .f32⟩
  | .local _ .vmem, ⟨5, _⟩ => ⟨S2x64x1024, .f32⟩
  | .local _ .vmem, ⟨6, _⟩ => ⟨S2x64x1024, .f32⟩
  | .local _ .vmem, ⟨7, _⟩ => ⟨S1x1x1024, .f32⟩
  | .local _ .vmem, ⟨8, _⟩ => ⟨S1x1x1024, .f32⟩
  | .local _ .vmem, ⟨9, _⟩ => ⟨S8x1x1024, .f32⟩
  | .local _ .smem, ⟨0, _⟩ => ⟨S1x1x1, .f32⟩
  | .local _ .smem, ⟨1, _⟩ => ⟨S1x1x1, .f32⟩
  | .local _ .smem, ⟨2, _⟩ => ⟨S8x1x1, .f32⟩
  | .local _ .smem, ⟨3, _⟩ => ⟨S1x1, .f32⟩
  | .local _ .smem, ⟨4, _⟩ => ⟨S1x1, .f32⟩
  | _, _ => ⟨S16x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0_3 : Ref sig .tc := ⟨.hbm, 3, rfl⟩
abbrev main_call0_v1_1 : Ref sig .tc := ⟨.hbm, 4, rfl⟩
abbrev main_call0_v1_2 : Ref sig .tc := ⟨.hbm, 5, rfl⟩
abbrev main_call0_v1_3 : Ref sig .tc := ⟨.hbm, 6, rfl⟩
abbrev main_call0_v2_0 : Ref sig .tc := ⟨.hbm, 7, rfl⟩
abbrev main_call0_v2_1 : Ref sig .tc := ⟨.hbm, 8, rfl⟩
abbrev main_v0_1 : Ref sig .tc := ⟨.hbm, 9, rfl⟩
abbrev main_v0_0 : Ref sig .tc := ⟨.hbm, 10, rfl⟩
abbrev main_v0_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc0_stg5_0 : Ref sig .tc := ⟨.smem, 0, rfl⟩
abbrev cc0_stg5_1 : Ref sig .tc := ⟨.smem, 1, rfl⟩
abbrev cc1_stg1_0 : Ref sig .tc := ⟨.smem, 2, rfl⟩
abbrev cc1_stg2_0 : Ref sig .tc := ⟨.smem, 3, rfl⟩
abbrev cc1_stg3_0 : Ref sig .tc := ⟨.smem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem1_0 : DmaSem sig := 12
abbrev cc1_sem2_0 : DmaSem sig := 13
abbrev cc1_sem3_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .smem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := .none

abbrev stage1_0 : Fin 1 → Memref sig .tc .vmem S8x1x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .smem S8x1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .smem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .smem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
-- ==== ReferenceIdeal.lean ====
abbrev S16x64x32x32 : Shape := ⟨4, ![16, 64, 32, 32]⟩
abbrev S1024x64 : Shape := ⟨2, ![1024, 64]⟩
abbrev S16x32x32x64 : Shape := ⟨4, ![16, 32, 32, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x1024 : Shape := ⟨2, ![1, 1024]⟩
abbrev S16384x1024 : Shape := ⟨2, ![16384, 1024]⟩
abbrev S64x1024 : Shape := ⟨2, ![64, 1024]⟩

abbrev nBuf : Space → Nat
  | .hbm => 59
  | .vmem => 0
  | .smem => 0
  | _ => 0

abbrev bufTy : (tb : Table) → Fin (tcTables nBuf tb) → BufTy
  | .hbm, ⟨0, _⟩ => ⟨S16x64x32x32, .f32⟩
  | .hbm, ⟨1, _⟩ => ⟨S1024x64, .f32⟩
  | .hbm, ⟨2, _⟩ => ⟨S16x32x32x64, .f32⟩
  | .hbm, ⟨3, _⟩ => ⟨S16384x64, .f32⟩
  | .hbm, ⟨4, _⟩ => ⟨S16384x64, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S1024x64, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S64x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .i32⟩
  | .hbm, ⟨22, _⟩ => ⟨S_, .f32⟩
  | .hbm, ⟨23, _⟩ => ⟨S_, .i32⟩
  | .hbm, ⟨24, _⟩ => ⟨S16384, .f32⟩
  | .hbm, ⟨25, _⟩ => ⟨S16384, .i32⟩
  | .hbm, ⟨26, _⟩ => ⟨S16384x1, .i32⟩
  | .hbm, ⟨27, _⟩ => ⟨S1x1024, .i32⟩
  | .hbm, ⟨28, _⟩ => ⟨S16384x1024, .i32⟩
  | .hbm, ⟨29, _⟩ => ⟨S16384x1024, .i32⟩
  | .hbm, ⟨30, _⟩ => ⟨S16384x1024, .i1⟩
  | .hbm, ⟨31, _⟩ => ⟨S16384x1024, .f32⟩
  | .hbm, ⟨32, _⟩ => ⟨S16384x64, .f32⟩
  | .hbm, ⟨33, _⟩ => ⟨S16x32x32x64, .f32⟩
  | .hbm, ⟨34, _⟩ => ⟨S16x32x32x64, .f32⟩
  | .hbm, ⟨35, _⟩ => ⟨S16x32x32x64, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S16x32x32x64, .f32⟩
  | .hbm, ⟨43, _⟩ => ⟨S16x32x32x64, .f32⟩
  | .hbm, ⟨44, _⟩ => ⟨S_, .f32⟩
  | .hbm, ⟨45, _⟩ => ⟨S1024, .f32⟩
  | .hbm, ⟨46, _⟩ => ⟨S_, .f32⟩
  | .hbm, ⟨47, _⟩ => ⟨S1024, .f32⟩
  | .hbm, ⟨48, _⟩ => ⟨S1024, .f32⟩
  | .hbm, ⟨49, _⟩ => ⟨S_, .f32⟩
  | .hbm, ⟨50, _⟩ => ⟨S1024, .f32⟩
  | .hbm, ⟨51, _⟩ => ⟨S1024, .f32⟩
  | .hbm, ⟨52, _⟩ => ⟨S1024, .f32⟩
  | .hbm, ⟨53, _⟩ => ⟨S1024, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S16x64x32x32, .f32⟩
  | _, _ => ⟨S16x64x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_v29 : Ref sig .tc := ⟨.hbm, 48, rfl⟩
abbrev main_cst_7 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]
-- ==== Proof.Run.lean ====
/- What the kernel program leaves behind: one run theorem that names all four result arrays and both arguments. -/
module

public import proofs.«01_k».proof.Proof.Gen.KernelIdeal.Frame

@[expose] public section

set_option maxRecDepth 16384

noncomputable section

namespace Cert.KernelIdeal.Run

open Idealize.ShloMosaic Idealize.ShloMosaic.TcCoe Idealize.ShloMosaic.Tactic Idealize.SL Idealize.SL.BI Idealize.SL.RA Idealize.SL.Sem Idealize.SL.ProofMode
open scoped Idealize.SL.BI
open Idealize.SL.BI.BIBase Idealize.SL.BI.Laws
open Idealize.ShloMosaic.Rounds
open Cert.KernelIdeal Cert.KernelIdeal.Gen

variable {F : FTy → Type} [FloatOps F]
variable (m : (ℓ : Loc nD τ sig) → Buf (Elt F) ℓ) (ρ : Dev nD → PrngReg)

set_option backward.isDefEq.respectTransparency.types false in
/-- Every execution of the program ends; the four results then hold what the last host stretch leaves (`W4`), and the
    arguments are unchanged. -/
theorem run : θ_run defs (onTc (τ := τ) (main (F := F))) ⟨m, fun _ => 0, ρ⟩ (fun r => ∀ c : Dev nD,
      r.2.mem ((c.tc : Thread nD τ).loc main_v0_0) = W4 m ρ c main_v0_0
      ∧ r.2.mem ((c.tc : Thread nD τ).loc main_v0_1) = W4 m ρ c main_v0_1
      ∧ r.2.mem ((c.tc : Thread nD τ).loc main_v0_2) = W4 m ρ c main_v0_2
      ∧ r.2.mem ((c.tc : Thread nD τ).loc main_v0_3) = W4 m ρ c main_v0_3
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨h c _ (mem_uc main_v0_0 (by decide)), h c _ (mem_uc main_v0_1 (by decide)),
       h c _ (mem_uc main_v0_2 (by decide)), h c _ (mem_uc main_v0_3 (by decide)),
       (h c _ (mem_uc main_arg0 (by decide))).trans (W4_main_arg0 m ρ c),
       (h c _ (mem_uc main_arg1 (by decide))).trans (W4_main_arg1 m ρ c)⟩)

end Cert.KernelIdeal.Run

end
-- ==== Proof.Nearest.lean ====
/- The nearest code of a row: distances, the FIRST index that attains the least distance, and two ways of finding it
   (by the least matching column number, and by a fold over (distance, index) pairs). Pure mathematics over the extended
   reals; no program is mentioned here. -/
module

public import Idealize.ShloMosaic.Lib.Pointwise

@[expose] public section

noncomputable section

namespace Cert.Nearest

open Idealize.ShloMosaic

/-! ## Distances -/

/-- The squared distance of the row `x` to code `k` of the table `e`, written out: `Σ x² + Σ e² − 2 Σ x e`. -/
def sqDist (x : Fin 64 → EReal) (e : Fin 1024 → Fin 64 → EReal) (k : Fin 1024) : EReal :=
  ((∑ c, x c * x c) + ∑ c, e k c * e k c) - 2 * ∑ c, x c * e k c

/-- Two times a finite sum of extended reals is the sum of the doubles. -/
theorem two_mul_sum {n : ℕ} (f : Fin n → EReal) : 2 * ∑ c, f c = ∑ c, 2 * f c := by
  have h2 : (2 : EReal) = ((2 : ℝ) : EReal) := by norm_cast
  have h : ∀ s : Finset (Fin n), 2 * ∑ c ∈ s, f c = ∑ c ∈ s, 2 * f c := by
    intro s
    induction s using Finset.induction_on with
    | empty => simp
    | insert a s ha ih =>
      rw [Finset.sum_insert ha, Finset.sum_insert ha, ← ih, h2, EReal.left_distrib_of_nonneg_of_ne_top (by norm_num) (EReal.coe_ne_top 2)]
  exact h Finset.univ

/-- The factor two may stand on the table's entries instead. -/
theorem sqDist_scaled (x : Fin 64 → EReal) (e : Fin 1024 → Fin 64 → EReal) (k : Fin 1024) :
    ((∑ c, x c * x c) + ∑ c, e k c * e k c) - ∑ c, x c * (2 * e k c) = sqDist x e k := by
  unfold sqDist
  rw [two_mul_sum]
  congr 1
  exact Finset.sum_congr rfl fun c _ => mul_left_comm _ _ _

/-! ## The first minimum -/

/-- `k` is the first index at which `d` takes its least value. -/
def IsFirstMin (d : Fin 1024 → EReal) (k : Fin 1024) : Prop := (∀ j, d k ≤ d j) ∧ ∀ j, j < k → d k < d j

/-- There is only one first minimum. -/
theorem IsFirstMin.unique {d : Fin 1024 → EReal} {k l : Fin 1024} (hk : IsFirstMin d k) (hl : IsFirstMin d l) : k = l := by
  rcases lt_trichotomy k l with h | h | h
  · exact absurd (hl.2 k h) (not_lt.mpr (hk.1 l))
  · exact h
  · exact absurd (hk.2 l h) (not_lt.mpr (hl.1 k))

open Classical in
/-- The indicator of the first minimum: one there, zero elsewhere. -/
def hot (d : Fin 1024 → EReal) (k : Fin 1024) : EReal := if IsFirstMin d k then 1 else 0

/-! ## What is computed from it

`x` is one row of 64 channels, `X` all 16384 rows, `e` the table of codes. -/

/-- The one-hot row of the nearest code. -/
def code (x : Fin 64 → EReal) (e : Fin 1024 → Fin 64 → EReal) (k : Fin 1024) : EReal := hot (sqDist x e) k

/-- The nearest code's entries, taken from the table by the one-hot row. -/
def quant (x : Fin 64 → EReal) (e : Fin 1024 → Fin 64 → EReal) (c : Fin 64) : EReal := ∑ k, code x e k * e k c

/-- The row plus its difference to the nearest code. -/
def straight (x : Fin 64 → EReal) (e : Fin 1024 → Fin 64 → EReal) (c : Fin 64) : EReal := x c + (quant x e c - x c)

/-- The squared error of one channel of a row. -/
def sqErr (x : Fin 64 → EReal) (e : Fin 1024 → Fin 64 → EReal) (c : Fin 64) : EReal :=
  (quant x e c - x c) * (quant x e c - x c)

/-- The loss: a quarter of the mean squared error. -/
def loss (X : Fin 16384 → Fin 64 → EReal) (e : Fin 1024 → Fin 64 → EReal) : EReal :=
  Ideal.ofBits .f32 0x3E800000#32 * Ideal.div (∑ R, ∑ c, sqErr (X R) e c) (Ideal.ofBits .f32 0x49800000#32)

/-- The share of the rows whose nearest code is `k`. -/
def share (X : Fin 16384 → Fin 64 → EReal) (e : Fin 1024 → Fin 64 → EReal) (k : Fin 1024) : EReal :=
  Ideal.div (∑ R, code (X R) e k) (Ideal.ofBits .f32 0x46800000#32)

/-- The perplexity of the shares. -/
def perplexity (X : Fin 16384 → Fin 64 → EReal) (e : Fin 1024 → Fin 64 → EReal) : EReal :=
  Ideal.exp (-∑ k, share X e k * Ideal.log (share X e k + Ideal.ofBits .f32 0x2EDBE6FF#32))

/-! ## Rows of the arguments -/

/-- Channel `c` of row `R` of the images: pixel `R % 1024` (in row-major order) of image `R / 1024`. -/
def rowsOf (A : (⟨4, ![16, 64, 32, 32]⟩ : Shape).Idx → EReal) (R : Fin 16384) (c : Fin 64) : EReal :=
  A (ix4 ⟨(R : ℕ) / 1024, by omega⟩ c ⟨(R : ℕ) / 32 % 32, by omega⟩ ⟨(R : ℕ) % 32, by omega⟩)

/-- The table of codes as a function of code and channel. -/
def tab (e : (⟨2, ![1024, 64]⟩ : Shape).Idx → EReal) (k : Fin 1024) (c : Fin 64) : EReal := e (ix2 k c)

/-! ## Three constants -/

/-- The word of 2. -/
theorem ofBits_two : Ideal.ofBits .f32 0x40000000#32 = 2 := by
  rw [show (2 : EReal) = ((2 : ℝ) : EReal) by norm_cast]
  simp [Ideal.ofBits, Ideal.ieee, -EReal.coe_mul]; norm_num

/-- The word of 1024. -/
theorem ofBits_1024 : Ideal.ofBits .f32 0x44800000#32 = ((1024 : ℝ) : EReal) := by
  simp [Ideal.ofBits, Ideal.ieee, -EReal.coe_mul]; norm_num

/-- The word of the infinity. -/
theorem ofBits_inf : Ideal.ofBits .f32 0x7F800000#32 = ⊤ := by simp [Ideal.ofBits, Ideal.ieee]

/-! ## By the least column number among those that attain the minimum -/

/-- A minimum over all indices (with `⊤` as the starting value) is attained. -/
theorem fold_min_attained (d : Fin 1024 → EReal) : ∃ j, d j = Finset.univ.fold min ⊤ d := by
  have hle : ∀ j, Finset.univ.fold min ⊤ d ≤ d j := fun j =>
    ((Finset.le_fold_min _).mp le_rfl).2 j (Finset.mem_univ j)
  rcases (Finset.fold_min_le (s := Finset.univ) (f := d) (b := ⊤) (Finset.univ.fold min ⊤ d)).mp le_rfl with h | ⟨j, -, h⟩
  · exact ⟨0, le_antisymm (le_top.trans h) (hle 0)⟩
  · exact ⟨j, le_antisymm h (hle j)⟩

/-- The minimum is at most each entry. -/
theorem fold_min_le_apply (d : Fin 1024 → EReal) (j : Fin 1024) : Finset.univ.fold min ⊤ d ≤ d j :=
  ((Finset.le_fold_min _).mp le_rfl).2 j (Finset.mem_univ j)

/-- An entry is the minimum exactly when it is at most every other. -/
theorem eq_fold_min_iff (d : Fin 1024 → EReal) (k : Fin 1024) :
    d k = Finset.univ.fold min ⊤ d ↔ ∀ j, d k ≤ d j := by
  constructor
  · intro h j; rw [h]; exact fold_min_le_apply d j
  · intro h
    obtain ⟨j, hj⟩ := fold_min_attained d
    exact le_antisymm (hj ▸ h j) (fold_min_le_apply d k)

/-- Column numbers are compared as extended reals. -/
theorem cast_le_cast {j k : Fin 1024} : (((j : ℕ) : ℝ) : EReal) ≤ (((k : ℕ) : ℝ) : EReal) ↔ j ≤ k := by
  rw [EReal.coe_le_coe_iff, Nat.cast_le]; exact Iff.rfl

/-- Every column number is less than 1024. -/
theorem cast_lt_1024 (k : Fin 1024) : (((k : ℕ) : ℝ) : EReal) < ((1024 : ℝ) : EReal) := by
  rw [EReal.coe_lt_coe_iff]; exact_mod_cast k.isLt

open Classical in
/-- The least column number among the columns whose distance is the minimum (1024 standing for "no match") is `k`
    exactly when `k` is the first minimum. -/
theorem eq_least_column_iff (d : Fin 1024 → EReal) (k : Fin 1024) :
    (((k : ℕ) : ℝ) : EReal) = Finset.univ.fold min ⊤ (fun j : Fin 1024 =>
        if d j = Finset.univ.fold min ⊤ d then (((j : ℕ) : ℝ) : EReal) else ((1024 : ℝ) : EReal))
      ↔ IsFirstMin d k := by
  constructor
  · intro h
    obtain ⟨j, hj⟩ := fold_min_attained (fun j : Fin 1024 =>
        if d j = Finset.univ.fold min ⊤ d then (((j : ℕ) : ℝ) : EReal) else ((1024 : ℝ) : EReal))
    have hlow := fold_min_le_apply (fun j : Fin 1024 =>
        if d j = Finset.univ.fold min ⊤ d then (((j : ℕ) : ℝ) : EReal) else ((1024 : ℝ) : EReal))
    rw [← h] at hj hlow
    have hjk : d j = Finset.univ.fold min ⊤ d ∧ j = k := by
      by_cases hd : d j = Finset.univ.fold min ⊤ d
      · rw [if_pos hd] at hj
        exact ⟨hd, le_antisymm (cast_le_cast.mp hj.le) (cast_le_cast.mp hj.ge)⟩
      · rw [if_neg hd] at hj
        exact absurd hj.symm (cast_lt_1024 k).ne
    obtain ⟨hmin, rfl⟩ := hjk
    refine ⟨(eq_fold_min_iff d j).mp hmin, fun l hl => ?_⟩
    rw [hmin]
    refine lt_of_le_of_ne (fold_min_le_apply d l) fun heq => ?_
    have := hlow l
    rw [if_pos heq.symm] at this
    exact absurd (cast_le_cast.mp this) (not_le.mpr hl)
  · rintro ⟨hle, hlt⟩
    have hmin := (eq_fold_min_iff d k).mpr hle
    refine le_antisymm ((Finset.le_fold_min _).mpr ⟨le_top, fun j _ => ?_⟩) ?_
    · split
      · rename_i hd
        refine cast_le_cast.mpr (not_lt.mp fun hjk => ?_)
        exact absurd (hd.trans hmin.symm) (hlt j hjk).ne'
      · exact (cast_lt_1024 k).le
    · refine (Finset.fold_min_le _).mpr (Or.inr ⟨k, Finset.mem_univ k, ?_⟩)
      rw [if_pos hmin]

/-! ## By a fold over (distance, index) pairs -/

/-- `p` comes no later than `q`: a smaller value, or the same value and an index (read as a signed word) no larger. -/
def NoLater (p q : EReal × BitVec 32) : Prop := p.1 < q.1 ∨ (p.1 = q.1 ∧ p.2.toInt ≤ q.2.toInt)

/-- A pair is no later than itself. -/
theorem NoLater.refl (p : EReal × BitVec 32) : NoLater p p := Or.inr ⟨rfl, le_rfl⟩

/-- Being no later is transitive. -/
theorem NoLater.trans {p q r : EReal × BitVec 32} (h : NoLater p q) (h' : NoLater q r) : NoLater p r := by
  rcases h with h | ⟨h, hi⟩ <;> rcases h' with h' | ⟨h', hi'⟩
  · exact Or.inl (h.trans h')
  · exact Or.inl (h' ▸ h)
  · exact Or.inl (h.symm ▸ h')
  · exact Or.inr ⟨h.trans h', hi.trans hi'⟩

/-- A fold whose step returns one of its two arguments, and one that comes no later than either, returns a pair of the
    list (or the starting pair) that comes no later than any of them. -/
theorem foldl_first {f : EReal × BitVec 32 → EReal × BitVec 32 → EReal × BitVec 32}
    (hmem : ∀ p q, f p q = p ∨ f p q = q) (hle : ∀ p q, NoLater (f p q) p ∧ NoLater (f p q) q) :
    ∀ (L : List (EReal × BitVec 32)) (i : EReal × BitVec 32),
      (L.foldl f i = i ∨ L.foldl f i ∈ L) ∧ NoLater (L.foldl f i) i ∧ ∀ p ∈ L, NoLater (L.foldl f i) p
  | [], i => ⟨Or.inl rfl, NoLater.refl i, fun _ h => absurd h List.not_mem_nil⟩
  | q :: L, i => by
    obtain ⟨h1, h2, h3⟩ := foldl_first hmem hle L (f i q)
    rw [List.foldl_cons]
    refine ⟨?_, h2.trans (hle i q).1, fun p hp => ?_⟩
    · rcases h1 with h1 | h1
      · rcases hmem i q with h | h
        · exact Or.inl (h1.trans h)
        · exact Or.inr (by rw [h1, h]; exact List.mem_cons_self)
      · exact Or.inr (List.mem_cons_of_mem _ h1)
    · rcases List.mem_cons.mp hp with rfl | hp
      · exact h2.trans (hle i p).2
      · exact h3 p hp

/-- A column number survives as a 32-bit integer. -/
theorem toInt_ofNat (k : Fin 1024) : (BitVec.ofNat 32 (k : ℕ)).toInt = (k : ℤ) := by
  have := k.isLt
  rw [BitVec.toInt_ofNat', Int.bmod_def]; omega

/-- Such a fold from `(⊤, 0)` over a list that holds exactly the pairs `(d j, j)` returns the first minimum's index. -/
theorem foldl_isFirstMin {f : EReal × BitVec 32 → EReal × BitVec 32 → EReal × BitVec 32}
    (hmem : ∀ p q, f p q = p ∨ f p q = q) (hle : ∀ p q, NoLater (f p q) p ∧ NoLater (f p q) q)
    (d : Fin 1024 → EReal) (L : List (EReal × BitVec 32)) (hL : ∀ p, p ∈ L ↔ ∃ j : Fin 1024, p = (d j, BitVec.ofNat 32 (j : ℕ))) :
    ∃ k : Fin 1024, IsFirstMin d k ∧ (L.foldl f (⊤, 0#32)).2 = BitVec.ofNat 32 (k : ℕ) := by
  obtain ⟨h1, -, h3⟩ := foldl_first hmem hle L (⊤, 0#32)
  have key : ∃ k : Fin 1024, L.foldl f (⊤, 0#32) = (d k, BitVec.ofNat 32 (k : ℕ)) := by
    rcases h1 with h1 | h1
    · refine ⟨0, ?_⟩
      have h0 := h3 _ ((hL _).mpr ⟨0, rfl⟩)
      rw [h1] at h0 ⊢
      rcases h0 with h0 | ⟨h0, -⟩
      · exact absurd h0 (not_lt.mpr le_top)
      · exact Prod.ext h0 rfl
    · exact (hL _).mp h1
  obtain ⟨k, hk⟩ := key
  refine ⟨k, ?_, by rw [hk]⟩
  have hno : ∀ j : Fin 1024, d k < d j ∨ (d k = d j ∧ k ≤ j) := fun j => by
    have := h3 _ ((hL _).mpr ⟨j, rfl⟩)
    rw [hk] at this
    rcases this with h | ⟨h, hi⟩
    · exact Or.inl h
    · refine Or.inr ⟨h, ?_⟩
      simp only [toInt_ofNat] at hi
      exact Fin.le_def.mpr (by omega)
  refine ⟨fun j => (hno j).elim (fun h => h.le) fun h => h.1.le, fun j hj => ?_⟩
  rcases hno j with h | ⟨-, h⟩
  · exact h
  · exact absurd hj (not_lt.mpr h)

end Cert.Nearest

end
-- ==== Proof.Block.lean ====
/- What the kernel's body computes from one block — two images, 2048 pixels — and the table of codes: every stored value
   read at one index, in the words of `Nearest`. -/
module

public import proofs.«01_k».proof.Proof.Gen.KernelIdeal.Skeleton
public import proofs.«01_k».proof.Proof.Nearest

@[expose] public section

set_option maxRecDepth 16384

noncomputable section

namespace Cert.KernelIdeal.Block

open Idealize.ShloMosaic Idealize.ShloMosaic.TcCoe Idealize.SL.Sem
open Cert.KernelIdeal Cert.KernelIdeal.Gen Cert.Nearest

/-- Channel `c` of pixel `j` of the block, the two images (`v0`, `v2`) standing one after the other. -/
def pix (v0 v2 : FVec Ideal S1x64x1024 .f32) (j : Fin 2048) (c : Fin 64) : EReal :=
  if h : (j : ℕ) < 1024 then v0 (ix3 0 c ⟨j, h⟩) else v2 (ix3 0 c ⟨j - 1024, by omega⟩)

/-- The joined block holds channel `c` of pixel `j`. -/
theorem pay5_at (v0 v2 : FVec Ideal S1x64x1024 .f32) (c : Fin 64) (j : Fin 2048) :
    k0_pay5 (F := Ideal) v0 v2 (ix2 c j) = pix v0 v2 j c := by
  pointwise [k0_pay5, pix]

/-! ## The one-hot matrix, in two steps -/

/-- The distances of all pixels to all codes, as the body computes them. -/
def dists (x : FVec Ideal S64x2048 .f32) (e : FVec Ideal S1024x64 .f32) : FVec Ideal S2048x1024 .f32 :=
  let xt := transpose S2048x64 [1, 0] x transposes_S64x2048_p1_0_S2048x64
  subf
    (addf
      (broadcastTo S2048x1024
        (shapeCast S2048x1 (multiReduction .add [1] S2048 (mulf xt xt) 0x00000000#32 reduces_S2048x64_S2048 (.inl rfl) rfl)
          shapeCasts_S2048_S2048x1) broadcasts_S2048x1_S2048x1024)
      (broadcastTo S2048x1024
        (shapeCast S1x1024 (multiReduction .add [1] S1024 (mulf e e) 0x00000000#32 reduces_S1024x64_S1024 (.inl rfl) rfl)
          shapeCasts_S1024_S1x1024) broadcasts_S1x1024_S2048x1024))
    (matmul dot_S2048x64_S1024x64_S2048x1024_1_1_0_0_n_n none xt
      (mulf (broadcast S1024x64 (Scalar.ofBits .f32 0x40000000#32)) e) (constant S2048x1024 .f32 0x00000000#32))

/-- The column numbers, as floats. -/
def cols : FVec Ideal S2048x1024 .f32 := sitofp .f32 (iota .tc S2048x1024 32 [1] iota_S2048x1024_d1_w32)

/-- A minimum along the rows, spread over the row again. -/
def rowMin (d : FVec Ideal S2048x1024 .f32) : FVec Ideal S2048x1024 .f32 :=
  broadcastTo S2048x1024
    (shapeCast S2048x1 (multiReduction .minimumf [1] S2048 d 0x7F800000#32 reduces_S2048x1024_S2048 (.inl rfl) rfl)
      shapeCasts_S2048_S2048x1) broadcasts_S2048x1_S2048x1024

/-- The one-hot matrix computed from the distances: one where the column number is the least column number among the
    columns that attain the row's minimum. -/
def hots (d : FVec Ideal S2048x1024 .f32) : FVec Ideal S2048x1024 .f32 :=
  sitofp .f32 (extui 32
    (cmpf .oeq cols
      (rowMin (select (cmpf .oeq d (rowMin d)) cols (broadcast S2048x1024 (Scalar.ofBits .f32 0x44800000#32)))))
    natLt_1_32)

/-- The stored encodings are the one-hot rows of the block's distances. -/
theorem pay6_eq (v0 v2 : FVec Ideal S1x64x1024 .f32) (e : FVec Ideal S1024x64 .f32) :
    k0_pay6 (F := Ideal) v0 v2 e = hots (dists (k0_pay5 (F := Ideal) v0 v2) e) := rfl

/-- Each distance is the squared distance of a pixel to a code. -/
theorem dists_at (x : FVec Ideal S64x2048 .f32) (e : FVec Ideal S1024x64 .f32) (r : Fin 2048) (k : Fin 1024) :
    dists x e (ix2 r k) = sqDist (fun c => x (ix2 c r)) (tab e) k := by
  rw [← sqDist_scaled]
  pointwise [dists, tab, ofBits_two]

/-- A column's number is its index. -/
theorem cols_at (r : Fin 2048) (k : Fin 1024) : cols (ix2 r k) = (((k : ℕ) : ℝ) : EReal) := by
  pointwise [cols]
  show (((BitVec.ofNat 32 (k : ℕ)).toInt : ℝ) : EReal) = _
  rw [toInt_ofNat]; norm_cast

/-- The row minimum is the minimum over the row's entries. -/
theorem rowMin_at (d : FVec Ideal S2048x1024 .f32) (r : Fin 2048) (k : Fin 1024) :
    rowMin d (ix2 r k) = Finset.univ.fold min ⊤ fun j : Fin 1024 => d (ix2 r j) := by
  pointwise [rowMin, ofBits_inf]

/-- A selection on an equality of extended reals. -/
theorem select_eq (a b x y : EReal) : Scalar.select (FloatOps.cmpf (F := Ideal) (φ := .f32) .oeq a b) x y = if a = b then x else y := by
  show (if BitVec.ofBool (decide (a = b)) = 1 then x else y) = _
  by_cases h : a = b <;> simp [h]

/-- An equality of extended reals, widened to a word and read as a float. -/
theorem word_eq (a b : EReal) :
    (FloatOps.sitofp .f32 ((FloatOps.cmpf (F := Ideal) (φ := .f32) .oeq a b).setWidth 32) : Ideal .f32)
      = if a = b then 1 else 0 := by
  show (((((BitVec.ofBool (decide (a = b))).setWidth 32).toInt : ℝ) : EReal)) = _
  by_cases h : a = b <;> simp [h]

/-- The column numbers where the row's minimum is attained, 1024 elsewhere. -/
def matching (d : FVec Ideal S2048x1024 .f32) : FVec Ideal S2048x1024 .f32 :=
  select (cmpf .oeq d (rowMin d)) cols (broadcast S2048x1024 (Scalar.ofBits .f32 0x44800000#32))

/-- The matching columns of a row, read at one column. -/
theorem matching_at (d : FVec Ideal S2048x1024 .f32) (r : Fin 2048) (k : Fin 1024) :
    matching d (ix2 r k) = if d (ix2 r k) = Finset.univ.fold min ⊤ (fun j : Fin 1024 => d (ix2 r j)) then (((k : ℕ) : ℝ) : EReal)
      else ((1024 : ℝ) : EReal) := by
  refine (select_eq (d (ix2 r k)) (rowMin d (ix2 r k)) (cols (ix2 r k)) (Ideal.ofBits .f32 0x44800000#32)).trans ?_
  rw [rowMin_at, cols_at, ofBits_1024]

/-- The indicator of the columns numbered as a row's entry says. -/
def indicator (m : FVec Ideal S2048x1024 .f32) : FVec Ideal S2048x1024 .f32 :=
  sitofp .f32 (extui 32 (cmpf .oeq cols m) natLt_1_32)

/-- The indicator is one in the column with the given number, zero elsewhere. -/
theorem indicator_at (m : FVec Ideal S2048x1024 .f32) (r : Fin 2048) (k : Fin 1024) :
    indicator m (ix2 r k) = if (((k : ℕ) : ℝ) : EReal) = m (ix2 r k) then 1 else 0 := by
  refine (word_eq (cols (ix2 r k)) (m (ix2 r k))).trans ?_
  rw [cols_at]

/-- The one-hot rows mark the least matching column. -/
theorem hots_eq (d : FVec Ideal S2048x1024 .f32) : hots d = indicator (rowMin (matching d)) := rfl

/-- The least matching column is the first minimum of the row. -/
theorem rowMin_matching (d : FVec Ideal S2048x1024 .f32) (r : Fin 2048) (k : Fin 1024) :
    (((k : ℕ) : ℝ) : EReal) = rowMin (matching d) (ix2 r k) ↔ IsFirstMin (fun j => d (ix2 r j)) k := by
  rw [rowMin_at, ← eq_least_column_iff]
  simp only [matching_at]

/-- A one-hot row marks the first minimum of the row of distances. -/
theorem hots_at (d : FVec Ideal S2048x1024 .f32) (r : Fin 2048) (k : Fin 1024) :
    hots d (ix2 r k) = hot (fun j => d (ix2 r j)) k := by
  rw [hots_eq, indicator_at]
  have h := rowMin_matching d r k
  unfold hot
  by_cases hk : IsFirstMin (fun j => d (ix2 r j)) k
  · rw [if_pos hk, if_pos (h.mpr hk)]
  · rw [if_neg hk, if_neg (fun q => hk (h.mp q))]

/-- The stored encodings of a pixel mark its nearest code. -/
theorem pay6_at (v0 v2 : FVec Ideal S1x64x1024 .f32) (e : FVec Ideal S1024x64 .f32) (r : Fin 2048) (k : Fin 1024) :
    k0_pay6 (F := Ideal) v0 v2 e (ix2 r k) = code (pix v0 v2 r) (tab e) k := by
  rw [pay6_eq, hots_at]
  unfold code
  congr 1
  funext j
  rw [dists_at]
  congr 1
  funext c
  exact pay5_at v0 v2 c r

/-! ## The quantized block, the counts and the error -/

/-- The product of table and encodings gives the entries of the nearest code. -/
theorem pay7_at (v0 v2 : FVec Ideal S1x64x1024 .f32) (e : FVec Ideal S1024x64 .f32) (c : Fin 64) (r : Fin 2048) :
    k0_pay7 (F := Ideal) v0 v2 e (ix2 c r) = quant (pix v0 v2 r) (tab e) c := by
  pointwise [k0_pay7, pay6_at, quant]
  exact Finset.sum_congr rfl fun k _ => mul_comm _ _

/-- The stored pixel is the pixel plus its difference to the nearest code. -/
theorem pay8_at (v0 v2 : FVec Ideal S1x64x1024 .f32) (e : FVec Ideal S1024x64 .f32) (c : Fin 64) (r : Fin 2048) :
    k0_pay8 (F := Ideal) v0 v2 e (ix2 c r) = straight (pix v0 v2 r) (tab e) c := by
  pointwise [k0_pay8, pay7_at, pay5_at, straight]

/-- The first image's quantized pixels. -/
theorem first_at (v0 v2 : FVec Ideal S1x64x1024 .f32) (e : FVec Ideal S1024x64 .f32) (c : Fin 64) (p : Fin 1024) :
    k0_pay1 (F := Ideal) (k0_pay9 (F := Ideal) v0 v2 e) (ix3 0 c p) = straight (pix v0 v2 ⟨p, by omega⟩) (tab e) c := by
  pointwise [k0_pay1, k0_pay9, pay8_at]

/-- The second image's quantized pixels. -/
theorem second_at (v0 v2 : FVec Ideal S1x64x1024 .f32) (e : FVec Ideal S1024x64 .f32) (c : Fin 64) (p : Fin 1024) :
    k0_pay2 (F := Ideal) (k0_pay8 (F := Ideal) v0 v2 e) (ix3 0 c p) = straight (pix v0 v2 ⟨1024 + p, by omega⟩) (tab e) c := by
  pointwise [k0_pay2, pay8_at]

/-- The block's squared error. -/
theorem error_eq (v0 v2 : FVec Ideal S1x64x1024 .f32) (e : FVec Ideal S1024x64 .f32) :
    k0_pay3 (F := Ideal) (k0_pay5 (F := Ideal) v0 v2) (k0_pay7 (F := Ideal) v0 v2 e)
      = ∑ c : Fin 64, ∑ r : Fin 2048, sqErr (pix v0 v2 r) (tab e) c := by
  pointwise [k0_pay3, pay5_at, pay7_at, sqErr]

/-- How many of the block's pixels take code `k`. -/
theorem counts_at (v0 v2 : FVec Ideal S1x64x1024 .f32) (e : FVec Ideal S1024x64 .f32) (k : Fin 1024) :
    k0_pay4 (F := Ideal) (k0_pay6 (F := Ideal) v0 v2 e) (ix3 0 0 k) = ∑ r : Fin 2048, code (pix v0 v2 r) (tab e) k := by
  pointwise [k0_pay4, pay6_at]

/-! ## The closing step -/

/-- The perplexity from the eight blocks' counts. -/
theorem final_perplexity (n : FVec Ideal S8x1x1024 .f32) :
    k1_pay1 (F := Ideal) (k1_pay3 n) (k1_pay4 n)
      = Ideal.exp (-∑ k : Fin 1024, Ideal.div (∑ t : Fin 8, n (ix3 t 0 k)) (Ideal.ofBits .f32 0x46800000#32)
          * Ideal.log (Ideal.div (∑ t : Fin 8, n (ix3 t 0 k)) (Ideal.ofBits .f32 0x46800000#32)
              + Ideal.ofBits .f32 0x2EDBE6FF#32)) := by
  pointwise [k1_pay1, k1_pay3, k1_pay4]
  rw [zero_sub, Fin.sum_univ_one]
  rfl

/-- The number of entries of the images, 16384 · 64. -/
theorem ofBits_pixels : Ideal.ofBits .f32 0x49800000#32 = ((1048576 : ℝ) : EReal) := by
  simp [Ideal.ofBits, Ideal.ieee, -EReal.coe_mul]; norm_num

/-- Scaling before the division by the number of entries is scaling after it. -/
theorem div_entries (a s : EReal) : Ideal.div (a * s) (Ideal.ofBits .f32 0x49800000#32)
    = a * Ideal.div s (Ideal.ofBits .f32 0x49800000#32) := by
  have h : ((1048576 : ℝ) : EReal) ≠ 0 := by rw [Ne, EReal.coe_eq_zero]; norm_num
  unfold Ideal.div
  rw [ofBits_pixels, if_neg h, if_neg h, mul_assoc]

/-- The loss from the eight blocks' errors. -/
theorem final_loss (s : Fin 8 → EReal) :
    k1_pay2 (F := Ideal) (s 0) (s 1) (s 2) (s 3) (s 4) (s 5) (s 6) (s 7)
      = Ideal.ofBits .f32 0x3E800000#32 * Ideal.div (∑ t, s t) (Ideal.ofBits .f32 0x49800000#32) := by
  pointwise [k1_pay2]
  rw [div_entries, Fin.sum_univ_eight]

end Cert.KernelIdeal.Block

end
-- ==== Proof.Region0.lean ====
/- What the first grid leaves in its four result arrays: at each point the body's stores (`Block`) land in the point's
   blocks, and the blocks tile the arrays. -/
module

public import proofs.«01_k».proof.Proof.Gen.KernelIdeal.Frame
public import proofs.«01_k».proof.Proof.Block
public import Idealize.ShloMosaic.Lib.Pipeline.ValueKit

@[expose] public section

set_option maxRecDepth 16384

noncomputable section

namespace Cert.KernelIdeal.Region0

open Idealize.ShloMosaic Idealize.ShloMosaic.TcCoe Idealize.SL.Sem
open Idealize.ShloMosaic.Pipeline (Dat)
open Cert.KernelIdeal Cert.KernelIdeal.Gen Cert.Nearest Cert.KernelIdeal.Block

/-! ## The arrays' contents in the words of `Nearest` -/

/-- Channel `c` of row `R` of the flattened images: pixel `R % 1024` of image `R / 1024`. -/
def flatRows (a : FVec Ideal S16x64x1024 .f32) (R : Fin 16384) (c : Fin 64) : EReal :=
  a (ix3 ⟨(R : ℕ) / 1024, by omega⟩ c ⟨(R : ℕ) % 1024, by omega⟩)

/-- Row `r` of block `b`. -/
def blockRow (b : Fin 8) (r : Fin 2048) : Fin 16384 := ⟨(b : ℕ) * 2048 + r, by omega⟩

/-- Row `p` of image `n`. -/
def imageRow (n : Fin 16) (p : Fin 1024) : Fin 16384 := ⟨(n : ℕ) * 1024 + p, by omega⟩

/-- The one-hot rows. -/
def encodings (a : FVec Ideal S16x64x1024 .f32) (e : FVec Ideal S1024x64 .f32) : FVec Ideal S16384x1024 .f32 :=
  fun i => code (flatRows a (i 0)) (tab e) (i 1)

/-- The quantized images. -/
def quantized (a : FVec Ideal S16x64x1024 .f32) (e : FVec Ideal S1024x64 .f32) : FVec Ideal S16x64x1024 .f32 :=
  fun i => straight (flatRows a (imageRow (i 0) (i 2))) (tab e) (i 1)

/-- Each block's counts of the codes. -/
def counts (a : FVec Ideal S16x64x1024 .f32) (e : FVec Ideal S1024x64 .f32) : FVec Ideal S8x1x1024 .f32 :=
  fun i => ∑ r : Fin 2048, code (flatRows a (blockRow (i 0) r)) (tab e) (i 2)

/-- Each block's squared error. -/
def errors (a : FVec Ideal S16x64x1024 .f32) (e : FVec Ideal S1024x64 .f32) : FVec Ideal S8x1x1 .f32 :=
  fun i => ∑ c : Fin 64, ∑ r : Fin 2048, sqErr (flatRows a (blockRow (i 0) r)) (tab e) c

/-! ## One point -/

/-- The rows of a block are the rows of its two images. -/
theorem pix_eq (a : FVec Ideal S16x64x1024 .f32) (v0 v2 : FVec Ideal S1x64x1024 .f32) (b : Fin 8)
    (h0 : ∀ (c : Fin 64) (p : Fin 1024), v0 (ix3 0 c p) = a (ix3 ⟨2 * (b : ℕ), by omega⟩ c p))
    (h2 : ∀ (c : Fin 64) (p : Fin 1024), v2 (ix3 0 c p) = a (ix3 ⟨2 * (b : ℕ) + 1, by omega⟩ c p)) :
    pix v0 v2 = fun r => flatRows a (blockRow b r) := by
  funext r c
  unfold pix flatRows blockRow
  by_cases h : (r : ℕ) < 1024
  · rw [dif_pos h, h0]
    have e1 : ((b : ℕ) * 2048 + r) / 1024 = 2 * b := by omega
    have e2 : ((b : ℕ) * 2048 + r) % 1024 = r := by omega
    simp only [e1, e2]
  · rw [dif_neg h, h2]
    have e1 : ((b : ℕ) * 2048 + r) / 1024 = 2 * b + 1 := by omega
    have e2 : ((b : ℕ) * 2048 + r) % 1024 = r - 1024 := by omega
    simp only [e1, e2]

variable (V : (c : Dev nD) → (b : Ref sig .tc) → Buf (Elt Ideal) ((c : Thread nD τ).loc b))

/-- Which block each window is at, at each point of the grid. -/
theorem idx : ∀ t : Fin cfg0.N, win0_0.index t = ![t.val, 0, 0] ∧ win0_1.index t = ![0, 0] ∧ win0_2.index t = ![t.val, 0]
    ∧ win0_3.index t = ![t.val, 0, 0] ∧ win0_4.index t = ![t.val, 0, 0] ∧ win0_5.index t = ![t.val, 0, 0] ∧ t.val < 8 :=
  (by decide +kernel : ∀ t : Fin grid0.N, _)

/-- The table is read whole at every point. -/
theorem table_eq (c : Dev nD) (t : Fin cfg0.N) : iblk0 V c 1 t = V c main_arg1 := by
  blk_ext! [iblk0, idx t]

/-- The number of a point, as a block. -/
def blockOf (t : Fin cfg0.N) : Fin 8 := ⟨t.val, (idx t).2.2.2.2.2.2⟩

/-- The one-hot rows. -/
theorem encodings_eq (c : Dev nD) :
    (dat0 V c).arrAt 2 cfg0.N = encodings (V c main_call0_v0) (V c main_arg1) := by
  refine (dat0 V c).arrAt_eq_of_covers 2 _ (by decide +kernel) fun t hf y => ?_
  blk_simp
  rw [after0_2]; unfold outsAt0; frame_out
  obtain ⟨r, k, rfl⟩ : ∃ r k, y = ix2 r k := ⟨_, _, eq_ix2 y⟩
  refine (pay6_at _ _ _ r k).trans ?_
  rw [table_eq, pix_eq (V c main_call0_v0) _ _ (blockOf t) (fun c p => by pointwise; blk_ext [iblk0, idx t, blockOf])
    (fun c p => by pointwise; blk_ext [iblk0, idx t, blockOf])]
  unfold encodings
  refine congrArg₂ (fun R k => code (flatRows (V c main_call0_v0) R) (tab (V c main_arg1)) k) (Fin.ext ?_) (Fin.ext ?_)
  · blk_simp [idx t, blockRow, blockOf]
  · blk_simp [idx t]

/-- The quantized images: the block's two stores are its two images. -/
theorem quantized_eq (c : Dev nD) :
    (dat0 V c).arrAt 3 cfg0.N = quantized (V c main_call0_v0) (V c main_arg1) := by
  refine (dat0 V c).arrAt_eq_of_covers 3 _ (by decide +kernel) fun t hf y => ?_
  blk_simp
  rw [after0_3]; unfold outsAt0; frame_out
  unfold quantized
  canon_tiles x h
  · obtain ⟨u, q, p, rfl⟩ : ∃ u q p, x = ix3 u q p := ⟨_, _, _, eq_ix3 x⟩
    obtain rfl : u = 0 := Subsingleton.elim _ _
    refine (second_at _ _ _ q p).trans ?_
    rw [table_eq, pix_eq (V c main_call0_v0) _ _ (blockOf t) (fun c p => by pointwise; blk_ext [iblk0, idx t, blockOf])
      (fun c p => by pointwise; blk_ext [iblk0, idx t, blockOf])]
    refine congrArg₂ (fun R k => straight (flatRows (V c main_call0_v0) R) (tab (V c main_arg1)) k) (Fin.ext ?_) (Fin.ext ?_)
    · have e0 : (y 0 : ℕ) = 1 := h0
      have e2 : (y 2 : ℕ) = p := h2
      blk_simp [idx t, blockRow, blockOf, imageRow, e0, e2]
      show (t : ℕ) * 2048 + (1024 + p) = (t * 2 + 1) * 1024 + p
      omega
    · have e1 : (y 1 : ℕ) = q := h1
      blk_simp [idx t, e1]
  · obtain ⟨u, q, p, rfl⟩ : ∃ u q p, x = ix3 u q p := ⟨_, _, _, eq_ix3 x⟩
    obtain rfl : u = 0 := Subsingleton.elim _ _
    refine (first_at _ _ _ q p).trans ?_
    rw [table_eq, pix_eq (V c main_call0_v0) _ _ (blockOf t) (fun c p => by pointwise; blk_ext [iblk0, idx t, blockOf])
      (fun c p => by pointwise; blk_ext [iblk0, idx t, blockOf])]
    refine congrArg₂ (fun R k => straight (flatRows (V c main_call0_v0) R) (tab (V c main_arg1)) k) (Fin.ext ?_) (Fin.ext ?_)
    · have e0 : (y 0 : ℕ) = 0 := h0
      have e2 : (y 2 : ℕ) = p := h2
      blk_simp [idx t, blockRow, blockOf, imageRow, e0, e2]
      show (t : ℕ) * 2048 + p = (t * 2 + 0) * 1024 + p
      omega
    · have e1 : (y 1 : ℕ) = q := h1
      blk_simp [idx t, e1]

/-- The blocks' counts. -/
theorem counts_eq (c : Dev nD) :
    (dat0 V c).arrAt 4 cfg0.N = counts (V c main_call0_v0) (V c main_arg1) := by
  refine (dat0 V c).arrAt_eq_of_covers 4 _ (by decide +kernel) fun t hf y => ?_
  blk_simp
  rw [after0_4]; unfold outsAt0; frame_out
  obtain ⟨u, v, k, rfl⟩ : ∃ u v k, y = ix3 u v k := ⟨_, _, _, eq_ix3 y⟩
  obtain rfl : u = 0 := Subsingleton.elim _ _
  obtain rfl : v = 0 := Subsingleton.elim _ _
  refine (counts_at _ _ _ k).trans ?_
  rw [table_eq, pix_eq (V c main_call0_v0) _ _ (blockOf t) (fun c p => by pointwise; blk_ext [iblk0, idx t, blockOf])
    (fun c p => by pointwise; blk_ext [iblk0, idx t, blockOf])]
  unfold counts
  refine congrArg₂ (fun (b : Fin 8) k => ∑ r, code (flatRows (V c main_call0_v0) (blockRow b r)) (tab (V c main_arg1)) k) (Fin.ext ?_) (Fin.ext ?_)
  · blk_simp [idx t, blockOf]
    rfl
  · blk_simp [idx t]

/-- The blocks' squared errors. -/
theorem errors_eq (c : Dev nD) :
    (dat0 V c).arrAt 5 cfg0.N = errors (V c main_call0_v0) (V c main_arg1) := by
  refine (dat0 V c).arrAt_eq_of_covers 5 _ (by decide +kernel) fun t hf y => ?_
  blk_simp
  rw [after0_5]; unfold outsAt0; frame_out
  refine (error_eq _ _ _).trans ?_
  rw [table_eq, pix_eq (V c main_call0_v0) _ _ (blockOf t) (fun c p => by pointwise; blk_ext [iblk0, idx t, blockOf])
    (fun c p => by pointwise; blk_ext [iblk0, idx t, blockOf])]
  unfold errors
  refine congrArg (fun (b : Fin 8) => ∑ c' : Fin 64, ∑ r, sqErr (flatRows (V c main_call0_v0) (blockRow b r)) (tab (V c main_arg1)) c') (Fin.ext ?_)
  blk_simp [idx t, blockOf]

end Cert.KernelIdeal.Region0
end
-- ==== Proof.Region1.lean ====
/- What the closing step leaves in its two one-element result arrays, from the eight blocks' counts and errors. -/
module

public import proofs.«01_k».proof.Proof.Gen.KernelIdeal.Frame
public import proofs.«01_k».proof.Proof.Block
public import Idealize.ShloMosaic.Lib.Pipeline.ValueKit
public import Idealize.ShloMosaic.Lib.Pipeline.ReadBack

@[expose] public section

set_option maxRecDepth 16384

noncomputable section

namespace Cert.KernelIdeal.Region1

open Idealize.ShloMosaic Idealize.ShloMosaic.TcCoe Idealize.SL.Sem
open Idealize.ShloMosaic.Pipeline (Dat)
open Cert.KernelIdeal Cert.KernelIdeal.Gen Cert.Nearest Cert.KernelIdeal.Block

variable (V : (c : Dev nD) → (b : Ref sig .tc) → Buf (Elt Ideal) ((c : Thread nD τ).loc b))

/-- The loss from the blocks' errors. -/
def lossOf (s : FVec Ideal S8x1x1 .f32) : EReal :=
  Ideal.ofBits .f32 0x3E800000#32 * Ideal.div (∑ t : Fin 8, s (ix3 t 0 0)) (Ideal.ofBits .f32 0x49800000#32)

/-- The share of code `k` from the blocks' counts. -/
def shareOf (n : FVec Ideal S8x1x1024 .f32) (k : Fin 1024) : EReal :=
  Ideal.div (∑ t : Fin 8, n (ix3 t 0 k)) (Ideal.ofBits .f32 0x46800000#32)

/-- The perplexity from the blocks' counts. -/
def perplexityOf (n : FVec Ideal S8x1x1024 .f32) : EReal :=
  Ideal.exp (-∑ k : Fin 1024, shareOf n k * Ideal.log (shareOf n k + Ideal.ofBits .f32 0x2EDBE6FF#32))

/-- Both inputs are read whole. -/
theorem idx : ∀ t : Fin cfg1.N, win1_0.index t = ![0, 0, 0] ∧ win1_1.index t = ![0, 0, 0] :=
  (by decide +kernel : ∀ t : Fin grid1.N, _)

/-- The counts are read whole. -/
theorem counts_block (c : Dev nD) : iblk1 V c 0 t1_0 = V c main_call0_v1_2 := by
  blk_ext! [iblk1, idx t1_0]

/-- The errors are read whole. -/
theorem errors_block (c : Dev nD) : iblk1 V c 1 t1_0 = V c main_call0_v1_3 := by
  blk_ext! [iblk1, idx t1_0]

/-- A one-element shape has one index. -/
theorem first_eq (h : 0 < S1x1x1.numel) : Shape.Idx.first h = ix3 0 0 0 := by
  refine funext fun a => Fin.ext ?_
  have h1 : ∀ a, S1x1x1.size a = 1 := by decide
  have h2 : (Shape.Idx.first h a : ℕ) < S1x1x1.size a := (Shape.Idx.first h a).isLt
  have h3 : ((ix3 0 0 0 : S1x1x1.Idx) a : ℕ) < S1x1x1.size a := ((ix3 0 0 0 : S1x1x1.Idx) a).isLt
  exact (Nat.lt_one_iff.mp (lt_of_lt_of_eq h2 (h1 a))).trans (Nat.lt_one_iff.mp (lt_of_lt_of_eq h3 (h1 a))).symm

/-- The launch leaves the loss of the blocks' errors. -/
theorem loss_eq (c : Dev nD) : (dat1 V c).arrAt 2 cfg1.N = fun _ => lossOf (V c main_call0_v1_3) := by
  refine (dat1 V c).arrAt_eq_of_after_last 2 t1_0 (by decide +kernel) _ fun j => ?_
  blk_simp
  rw [after1_2]; unfold outsAt1; frame_out
  refine Eq.trans ?_ (final_loss fun t => (V c main_call0_v1_3 : FVec Ideal S8x1x1 .f32) (ix3 t 0 0))
  rw [read_unread_whole, errors_block, first_eq]
  generalize V c main_call0_v1_3 = s
  congr 1 <;> (pointwise; blk_ext)

/-- The launch leaves the perplexity of the blocks' counts. -/
theorem perplexity_eq (c : Dev nD) : (dat1 V c).arrAt 3 cfg1.N = fun _ => perplexityOf (V c main_call0_v1_2) := by
  refine (dat1 V c).arrAt_eq_of_after_last 3 t1_0 (by decide +kernel) _ fun j => ?_
  blk_simp
  rw [after1_3]; unfold outsAt1; frame_out
  rw [read_unread_whole, counts_block]
  exact final_perplexity _

end Cert.KernelIdeal.Region1
end
-- ==== Proof.Results.lean ====
/- The kernel program's four results over its two arguments, in the words of `Nearest`. -/
module

public import proofs.«01_k».proof.Proof.Gen.KernelIdeal.Frame
public import proofs.«01_k».proof.Proof.Region0
public import proofs.«01_k».proof.Proof.Region1

@[expose] public section

set_option maxRecDepth 16384

noncomputable section

namespace Cert.KernelIdeal.Results

open Idealize.ShloMosaic Idealize.ShloMosaic.TcCoe Idealize.SL.Sem
open Cert.KernelIdeal Cert.KernelIdeal.Gen Cert.Nearest Cert.KernelIdeal.Region0 Cert.KernelIdeal.Region1

variable (m : (ℓ : Loc nD τ sig) → Buf (Elt Ideal) ℓ) (ρ : Dev nD → PrngReg) (c : Dev nD)

/-! ## What the first launch reads -/

/-- The first launch reads the images with their pixels in one axis. -/
theorem V1_images : V1 m ρ c main_call0_v0
    = shapeCast S16x64x1024 (m ((c : Thread nD τ).loc main_arg0) : FVec Ideal S16x64x32x32 .f32) shapeCasts_S16x64x32x32_S16x64x1024 := by
  show StableHlo.after hostOps0 (W0 m ρ c) main_call0_v0 = _
  after_results
  rfl

/-- Pixels in one axis or in two, the rows are the same. -/
theorem flat_at (A : FVec Ideal S16x64x32x32 .f32) :
    flatRows (shapeCast S16x64x1024 A shapeCasts_S16x64x32x32_S16x64x1024) = rowsOf A := by
  funext R k
  unfold flatRows rowsOf
  pointwise []
  have h1 : (R : ℕ) % 1024 / 32 = R / 32 % 32 := by omega
  have h2 : (R : ℕ) % 1024 % 32 = R % 32 := by omega
  simp only [h1, h2]

/-- The rows the first launch reads are the pixels of the argument. -/
theorem rows_eq : flatRows (V1 m ρ c main_call0_v0) = rowsOf (m ((c : Thread nD τ).loc main_arg0)) := by
  rw [V1_images]; exact flat_at _

/-- The first launch reads the table as it was given. -/
theorem table_eq : V1 m ρ c main_arg1 = m ((c : Thread nD τ).loc main_arg1) := W1_args m ρ c main_arg1 (by decide)

/-! ## What the first launch leaves -/

/-- The first launch leaves the encodings. -/
theorem W2_encodings : W2 m ρ c main_v0_3 = encodings (V1 m ρ c main_call0_v0) (V1 m ρ c main_arg1) :=
  (W2_arr m ρ c 2).trans (encodings_eq (V1 m ρ) c)

/-- The first launch leaves the quantized images. -/
theorem W2_quantized : W2 m ρ c main_call0_v1_1 = quantized (V1 m ρ c main_call0_v0) (V1 m ρ c main_arg1) :=
  (W2_arr m ρ c 3).trans (quantized_eq (V1 m ρ) c)

/-- The first launch leaves each block's counts. -/
theorem W2_counts : W2 m ρ c main_call0_v1_2 = counts (V1 m ρ c main_call0_v0) (V1 m ρ c main_arg1) :=
  (W2_arr m ρ c 4).trans (counts_eq (V1 m ρ) c)

/-- The first launch leaves each block's squared error. -/
theorem W2_errors : W2 m ρ c main_call0_v1_3 = errors (V1 m ρ c main_call0_v0) (V1 m ρ c main_arg1) :=
  (W2_arr m ρ c 5).trans (errors_eq (V1 m ρ) c)

/-! ## What the second launch and the last host steps leave -/

/-- The second launch leaves the loss of the blocks' errors. -/
theorem W3_loss : W3 m ρ c main_call0_v2_0 = fun _ => lossOf (W2 m ρ c main_call0_v1_3) :=
  (W3_arr m ρ c 2).trans (loss_eq (V2 m ρ) c)

/-- The second launch leaves the perplexity of the blocks' counts. -/
theorem W3_perplexity : W3 m ρ c main_call0_v2_1 = fun _ => perplexityOf (W2 m ρ c main_call0_v1_2) :=
  (W3_arr m ρ c 3).trans (perplexity_eq (V2 m ρ) c)

/-- The encodings are still there at the end. -/
theorem W4_encodings : W4 m ρ c main_v0_3 = encodings (V1 m ρ c main_call0_v0) (V1 m ρ c main_arg1) :=
  (W4_of m ρ c main_v0_3 (by decide)).trans
    ((W3_of_ne m ρ c main_v0_3 (by decide)).trans (W2_encodings m ρ c))

/-- The second result is the quantized images in the argument's layout. -/
theorem W4_quantized : W4 m ρ c main_v0_1
    = shapeCast S16x64x32x32 (quantized (V1 m ρ c main_call0_v0) (V1 m ρ c main_arg1)) shapeCasts_S16x64x1024_S16x64x32x32 := by
  rw [← W2_quantized, ← W3_of_ne m ρ c main_call0_v1_1 (by decide)]
  show StableHlo.after hostOps2 (W3 m ρ c) main_v0_1 = _
  after_results
  rfl

/-- The first result is the second launch's loss as a scalar. -/
theorem W4_loss_cast : W4 m ρ c main_v0_0 = shapeCast S_ (W3 m ρ c main_call0_v2_0 : FVec Ideal S1x1 .f32) shapeCasts_S1x1_S_ := by
  show StableHlo.after hostOps2 (W3 m ρ c) main_v0_0 = _
  after_results
  rfl

/-- The first result over the blocks' errors. -/
theorem W4_loss (i : S_.Idx) : W4 m ρ c main_v0_0 i = lossOf (W2 m ρ c main_call0_v1_3) := by
  rw [W4_loss_cast, W3_loss]
  rfl

/-- The third result is the second launch's perplexity as a scalar. -/
theorem W4_perplexity_cast : W4 m ρ c main_v0_2 = shapeCast S_ (W3 m ρ c main_call0_v2_1 : FVec Ideal S1x1 .f32) shapeCasts_S1x1_S_ := by
  show StableHlo.after hostOps2 (W3 m ρ c) main_v0_2 = _
  after_results
  rfl

/-- The third result over the blocks' counts. -/
theorem W4_perplexity (i : S_.Idx) : W4 m ρ c main_v0_2 i = perplexityOf (W2 m ρ c main_call0_v1_2) := by
  rw [W4_perplexity_cast, W3_perplexity]
  rfl

/-! ## The four results -/

/-- A sum over eight blocks of 2048 rows is a sum over all rows. -/
theorem sum_blocks (f : Fin 16384 → EReal) : ∑ t : Fin 8, ∑ r : Fin 2048, f (blockRow t r) = ∑ R, f R :=
  Fin.sum_mul_add_congr (S := 8) (n := 2048) fun t r hl => rfl

/-- The fourth result: row `R` marks the code nearest to pixel `R`. -/
theorem encodings_at (R : Fin 16384) (k : Fin 1024) :
    W4 m ρ c main_v0_3 (ix2 R k) = code (rowsOf (m ((c : Thread nD τ).loc main_arg0)) R) (tab (m ((c : Thread nD τ).loc main_arg1))) k := by
  rw [W4_encodings, table_eq]
  unfold encodings
  rw [rows_eq]
  rfl

/-- The second result: each pixel plus its difference to its nearest code. -/
theorem quantized_at (n : Fin 16) (k : Fin 64) (y x : Fin 32) :
    W4 m ρ c main_v0_1 (ix4 n k y x)
      = straight (rowsOf (m ((c : Thread nD τ).loc main_arg0)) ⟨(n : ℕ) * 1024 + (y : ℕ) * 32 + x, by omega⟩) (tab (m ((c : Thread nD τ).loc main_arg1))) k := by
  rw [W4_quantized, table_eq]
  unfold quantized
  rw [rows_eq]
  pointwise [imageRow]
  simp only [Nat.add_assoc]

/-- The loss from the blocks' errors is the loss over all rows. -/
theorem loss_rows (X : Fin 16384 → Fin 64 → EReal) (E : Fin 1024 → Fin 64 → EReal) :
    lossOf (fun i => ∑ k, ∑ r, sqErr (X (blockRow (i 0) r)) E k) = loss X E := by
  have h : ∀ t : Fin 8, (fun i : S8x1x1.Idx => ∑ k, ∑ r, sqErr (X (blockRow (i 0) r)) E k) (ix3 t 0 0)
      = ∑ r, ∑ k, sqErr (X (blockRow t r)) E k := fun t => Finset.sum_comm
  unfold lossOf loss
  rw [Finset.sum_congr rfl fun t _ => h t, sum_blocks fun R => ∑ k, sqErr (X R) E k]

/-- The shares from the blocks' counts are the shares over all rows. -/
theorem share_rows (X : Fin 16384 → Fin 64 → EReal) (E : Fin 1024 → Fin 64 → EReal) (k : Fin 1024) :
    shareOf (fun i => ∑ r, code (X (blockRow (i 0) r)) E (i 2)) k = share X E k := by
  have h : ∀ t : Fin 8, (fun i : S8x1x1024.Idx => ∑ r, code (X (blockRow (i 0) r)) E (i 2)) (ix3 t 0 k)
      = ∑ r, code (X (blockRow t r)) E k := fun t => rfl
  unfold shareOf share
  rw [Finset.sum_congr rfl fun t _ => h t, sum_blocks fun R => code (X R) E k]

/-- The perplexity from the blocks' counts is the perplexity over all rows. -/
theorem perplexity_rows (X : Fin 16384 → Fin 64 → EReal) (E : Fin 1024 → Fin 64 → EReal) :
    perplexityOf (fun i => ∑ r, code (X (blockRow (i 0) r)) E (i 2)) = perplexity X E := by
  unfold perplexityOf perplexity
  simp only [share_rows]

/-- The first result: the loss. -/
theorem loss_at (i : S_.Idx) :
    W4 m ρ c main_v0_0 i = loss (rowsOf (m ((c : Thread nD τ).loc main_arg0))) (tab (m ((c : Thread nD τ).loc main_arg1))) := by
  rw [W4_loss, W2_errors, table_eq]
  unfold errors
  rw [rows_eq]
  exact loss_rows _ _

/-- The third result: the perplexity. -/
theorem perplexity_at (i : S_.Idx) :
    W4 m ρ c main_v0_2 i = perplexity (rowsOf (m ((c : Thread nD τ).loc main_arg0))) (tab (m ((c : Thread nD τ).loc main_arg1))) := by
  rw [W4_perplexity, W2_counts, table_eq]
  unfold counts
  rw [rows_eq]
  exact perplexity_rows _ _

end Cert.KernelIdeal.Results
end
-- ==== Proof.RefValue.lean ====
/- What the reference program computes: each of its four results as a composition of named steps, then read at one index
   in the words of `Nearest`. -/
module

public import proofs.«01_k».proof.Proof.Gen.ReferenceIdeal
public import proofs.«01_k».proof.Proof.Nearest
public import Idealize.ShloMosaic.Lib.KernelVsHost
public import Idealize.ShloMosaic.Lib.Pipeline.ValueKit

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.Nearest

/-! ## The steps -/

/-- The images with the channels moved last. -/
def last (A : FVec Ideal S16x64x32x32 .f32) : FVec Ideal S16x32x32x64 .f32 :=
  transpose S16x32x32x64 [0, 2, 3, 1] A transposes_S16x64x32x32_S16x32x32x64_0_2_3_1

/-- One row per pixel. -/
def rows (A : FVec Ideal S16x64x32x32 .f32) : FVec Ideal S16384x64 .f32 :=
  shapeCast S16384x64 (last A) shapeCasts_S16x32x32x64_S16384x64

/-- The distances of all rows to all codes. -/
def dists (x : FVec Ideal S16384x64 .f32) (e : FVec Ideal S1024x64 .f32) : FVec Ideal S16384x1024 .f32 :=
  subf
    (addf
      (broadcastInDim S16384x1024 ![0, 1] bcast_S16384x1_S16384x1024_0_1
        (broadcastInDim S16384x1 ![0] bcast_S16384_S16384x1_0
          (Host.reduceAdd (mulf x x) (constant S_ .f32 0x00000000#32) reducesTo_S16384x64_S16384_d1 h_S_)))
      (broadcastInDim S16384x1024 ![0, 1] bcast_S1x1024_S16384x1024_0_1
        (broadcastInDim S1x1024 ![1] bcast_S1024_S1x1024_1
          (Host.reduceAdd (mulf e e) (constant S_ .f32 0x00000000#32) reducesTo_S1024x64_S1024_d1 h_S_))))
    (mulf (broadcastInDim S16384x1024 ![] bcast_S_S16384x1024 (constant S_ .f32 0x40000000#32))
      (Host.dotGeneral dot_S16384x64_S64x1024_S16384x1024_1_0_0_1_n_n none x
        (transpose S64x1024 [1, 0] e transposes_S1024x64_S64x1024_1_0)))

/-- The index of the least distance of each row. -/
def argmin (d : FVec Ideal S16384x1024 .f32) : IVec S16384 32 := fun j =>
  (Host.argReduce (F := Ideal) (φ := .f32) reducer_argmin_f32_i32 d (iotaInDim S16384x1024 32 1) (constant S_ .f32 0x7F800000#32)
    (constantI S_ 32 0#32) reducesTo_S16384x1024_S16384_d1 h_S_ j).2

/-- One-hot rows from indices. -/
def oneHot (i : IVec S16384 32) : FVec Ideal S16384x1024 .f32 :=
  uitofp .f32 (cmpi .eq
    (broadcastInDim S16384x1024 ![0, 1] bcast_S16384x1_S16384x1024_0_1
      (broadcastInDim S16384x1 ![0] bcast_S16384_S16384x1_0 i))
    (broadcastInDim S16384x1024 ![0, 1] bcast_S1x1024_S16384x1024_0_1 (iotaInDim S1x1024 32 1)))

/-- The one-hot rows of the nearest codes: the fourth result. -/
def codes (A : FVec Ideal S16x64x32x32 .f32) (e : FVec Ideal S1024x64 .f32) : FVec Ideal S16384x1024 .f32 :=
  oneHot (argmin (dists (rows A) e))

/-- The chosen codes, in the images' layout. -/
def picked (h : FVec Ideal S16384x1024 .f32) (e : FVec Ideal S1024x64 .f32) : FVec Ideal S16x32x32x64 .f32 :=
  shapeCast S16x32x32x64 (Host.dotGeneral dot_S16384x1024_S1024x64_S16384x64_1_0_0_1_n_n none h e : FVec Ideal S16384x64 .f32)
    shapeCasts_S16384x64_S16x32x32x64

/-- The mean squared error, scaled: the first result. -/
def lossOf (x q : FVec Ideal S16x32x32x64 .f32) : FVec Ideal S_ .f32 :=
  mulf (constant S_ .f32 0x3E800000#32)
    (Host.divf
      (Host.reduceAdd (mulf (subf q x) (subf q x)) (constant S_ .f32 0x00000000#32) reducesTo_S16x32x32x64_S_d0_1_2_3 h_S_)
      (constant S_ .f32 0x49800000#32))

/-- The input plus its difference to the chosen codes, channels back in place: the second result. -/
def straightOf (x q : FVec Ideal S16x32x32x64 .f32) : FVec Ideal S16x64x32x32 .f32 :=
  transpose S16x64x32x32 [0, 3, 1, 2] (addf x (subf q x)) transposes_S16x32x32x64_S16x64x32x32_0_3_1_2

/-- The mean of the one-hot rows. -/
def shareOf (h : FVec Ideal S16384x1024 .f32) : FVec Ideal S1024 .f32 :=
  Host.divf (Host.reduceAdd h (constant S_ .f32 0x00000000#32) reducesTo_S16384x1024_S1024_d0 h_S_)
    (broadcastInDim S1024 ![] bcast_S_S1024 (constant S_ .f32 0x46800000#32))

/-- The perplexity of the shares: the third result. -/
def perplexityOf (p : FVec Ideal S1024 .f32) : FVec Ideal S_ .f32 :=
  Host.exp (Host.negf
    (Host.reduceAdd (mulf p (Host.log (addf p (broadcastInDim S1024 ![] bcast_S_S1024 (constant S_ .f32 0x2EDBE6FF#32)))))
      (constant S_ .f32 0x00000000#32) reducesTo_S1024_S_d0 h_S_))

/-! ## The steps at an index -/

/-- Moving the channels last, at one index. -/
theorem last_at (A : FVec Ideal S16x64x32x32 .f32) (n : Fin 16) (y x : Fin 32) (c : Fin 64) :
    last A (ix4 n y x c) = A (ix4 n c y x) := by
  pointwise [last]

/-- The row of a pixel. -/
def rowIx (n : Fin 16) (y x : Fin 32) : Fin 16384 := ⟨(n : ℕ) * 1024 + (y : ℕ) * 32 + x, by omega⟩

/-- The row of a pixel holds the pixel's channels. -/
theorem rowsOf_rowIx (A : FVec Ideal S16x64x32x32 .f32) (n : Fin 16) (y x : Fin 32) (c : Fin 64) :
    rowsOf A (rowIx n y x) c = A (ix4 n c y x) := by
  unfold rowsOf rowIx
  congr 1
  have := n.isLt; have := y.isLt; have := x.isLt
  have h1 : ((n : ℕ) * 1024 + (y : ℕ) * 32 + x) / 1024 = n := by omega
  have h2 : ((n : ℕ) * 1024 + (y : ℕ) * 32 + x) / 32 % 32 = y := by omega
  have h3 : ((n : ℕ) * 1024 + (y : ℕ) * 32 + x) % 32 = x := by omega
  simp only [h1, h2, h3]

/-- The reference's rows are the pixels. -/
theorem rows_at (A : FVec Ideal S16x64x32x32 .f32) (R : Fin 16384) (c : Fin 64) : rows A (ix2 R c) = rowsOf A R c := by
  pointwise [rows, last, rowsOf]

/-- Each of the reference's distances is the squared distance of a row to a code. -/
theorem dists_at (x : FVec Ideal S16384x64 .f32) (e : FVec Ideal S1024x64 .f32) (R : Fin 16384) (k : Fin 1024) :
    dists x e (ix2 R k) = sqDist (fun c => x (ix2 R c)) (tab e) k := by
  pointwise [dists, sqDist, tab, ofBits_two]

/-- An equality of words, read as a float. -/
theorem uitofp_eq (a b : BitVec 32) :
    (FloatOps.uitofp .f32 (IntOp.cmpi .eq a b) : Ideal .f32) = if a = b then 1 else 0 := by
  show (((IntOp.cmpi .eq a b).toNat : ℝ) : EReal) = _
  by_cases h : a = b <;> simp [IntOp.cmpi, h]

/-- A one-hot row has its one at the row's index. -/
theorem oneHot_at (i : IVec S16384 32) (R : Fin 16384) (k : Fin 1024) :
    oneHot i (ix2 R k) = if i (ix1 R) = BitVec.ofNat 32 (k : ℕ) then 1 else 0 := by
  pointwise [oneHot]
  exact uitofp_eq _ _

/-! ## The index of the least distance -/

/-- One step of the reference's fold: the first pair if its value is less, or equal with a smaller index; else the
    second. -/
theorem reducer_eq (p q : EReal × BitVec 32) :
    reducer_argmin_f32_i32 (F := Ideal) p q = if p.1 < q.1 ∨ (p.1 = q.1 ∧ p.2.toInt < q.2.toInt) then p else q := by
  obtain ⟨a, i⟩ := p
  obtain ⟨b, j⟩ := q
  by_cases h : a < b
  · simp [reducer_argmin_f32_i32, Ideal.cmpf_def, Ideal.cmp, IntOp.cmpi, IntOp.ori, IntOp.andi, Scalar.select, h, h.ne]
  · by_cases h' : a = b
    · subst h'
      by_cases hi : i.toInt < j.toInt
      · simp [reducer_argmin_f32_i32, Ideal.cmpf_def, Ideal.cmp, IntOp.cmpi, IntOp.ori, IntOp.andi, Scalar.select, BitVec.slt, hi]
      · simp [reducer_argmin_f32_i32, Ideal.cmpf_def, Ideal.cmp, IntOp.cmpi, IntOp.ori, IntOp.andi, Scalar.select, BitVec.slt, hi]
    · simp [reducer_argmin_f32_i32, Ideal.cmpf_def, Ideal.cmp, IntOp.cmpi, IntOp.ori, IntOp.andi, Scalar.select, h, h']

/-- A step of the fold keeps one of the two pairs. -/
theorem reducer_mem (p q : EReal × BitVec 32) :
    reducer_argmin_f32_i32 (F := Ideal) p q = p ∨ reducer_argmin_f32_i32 (F := Ideal) p q = q := by
  rw [reducer_eq]; split
  · exact Or.inl rfl
  · exact Or.inr rfl

/-- The pair that a step keeps is no later than either. -/
theorem reducer_noLater (p q : EReal × BitVec 32) :
    NoLater (reducer_argmin_f32_i32 (F := Ideal) p q) p ∧ NoLater (reducer_argmin_f32_i32 (F := Ideal) p q) q := by
  rw [reducer_eq]; split
  · rename_i h
    exact ⟨NoLater.refl p, h.imp_right fun h => ⟨h.1, h.2.le⟩⟩
  · rename_i h
    rw [not_or, not_and, not_lt, not_lt] at h
    refine ⟨?_, NoLater.refl q⟩
    rcases h.1.lt_or_eq with h1 | h1
    · exact Or.inl h1
    · exact Or.inr ⟨h1, h.2 h1.symm⟩

/-- The pairs that the fold of row `R` meets: each column's distance with the column's number. -/
theorem mem_fiber (d : FVec Ideal S16384x1024 .f32) (R : Fin 16384) (p : EReal × BitVec 32) :
    p ∈ Host.argReduceFiber d (iotaInDim S16384x1024 32 1) reducesTo_S16384x1024_S16384_d1 (ix1 R)
      ↔ ∃ k : Fin 1024, p = (d (ix2 R k), BitVec.ofNat 32 (k : ℕ)) := by
  unfold Host.argReduceFiber
  simp only [List.mem_map, List.mem_filter, List.mem_finRange, true_and, decide_eq_true_eq]
  constructor
  · rintro ⟨n, hn, rfl⟩
    obtain ⟨a, k, hak⟩ : ∃ a k, S16384x1024.rowMajor.symm n = ix2 a k := ⟨_, _, eq_ix2 _⟩
    rw [hak] at hn ⊢
    have h0 := reducesTo_S16384x1024_S16384_d1.drop_apply_val_of_eq (ix2 a k) 0 0
    rw [hn] at h0
    obtain rfl : a = R := Fin.ext h0.symm
    exact ⟨k, rfl⟩
  · rintro ⟨k, rfl⟩
    refine ⟨S16384x1024.rowMajor (ix2 R k), ?_, ?_⟩
    · rw [Equiv.symm_apply_apply]
      refine funext fun b => ?_
      obtain rfl : b = 0 := Subsingleton.elim _ _
      exact Fin.ext (reducesTo_S16384x1024_S16384_d1.drop_apply_val_of_eq (ix2 R k) 0 0)
    · rw [Equiv.symm_apply_apply]; rfl

/-- A fold over pairs, along some list with the members of the fiber. -/
theorem argReduce_foldl {s t u : Shape} {axes : List (Fin s.rank)} {β : Type} (f : EReal × β → EReal × β → EReal × β)
    (x : FVec Ideal s .f32) (y : s.Idx → β) (ix : u.Idx → EReal) (iy : u.Idx → β) (h : s.ReducesTo axes t) (hu : 0 < u.numel)
    (j : t.Idx) (a : EReal) (b : β) (ha : ix (Shape.Idx.first hu) = a) (hb : iy (Shape.Idx.first hu) = b) :
    ∃ L : List (EReal × β), (∀ p, p ∈ L ↔ p ∈ Host.argReduceFiber (α := EReal) x y h j)
      ∧ Host.argReduce (F := Ideal) (φ := .f32) f x y ix iy h hu j = L.foldl f (a, b) := by
  subst ha hb
  refine ⟨Host.argReduceFiber (α := EReal) x y h j, fun _ => Iff.rfl, ?_⟩
  rw [Ideal.argReduce_eq_reduce2]
  exact Host.reduce2_eq_foldl_fiber f x y ix iy h hu j

/-- The index array, spelled out. -/
theorem argmin_eq (d : FVec Ideal S16384x1024 .f32) : argmin d = fun j =>
    (Host.argReduce (F := Ideal) (φ := .f32) reducer_argmin_f32_i32 d (iotaInDim S16384x1024 32 1)
      (constant S_ .f32 0x7F800000#32) (constantI S_ 32 0#32) reducesTo_S16384x1024_S16384_d1 h_S_ j).2 := rfl

/-- The index of a row is its first minimum. -/
theorem argmin_at (d : FVec Ideal S16384x1024 .f32) (R : Fin 16384) :
    ∃ k : Fin 1024, IsFirstMin (fun j => d (ix2 R j)) k ∧ argmin d (ix1 R) = BitVec.ofNat 32 (k : ℕ) := by
  obtain ⟨L, hL, hf⟩ := argReduce_foldl (reducer_argmin_f32_i32 (F := Ideal)) d (iotaInDim S16384x1024 32 1)
    (constant (F := Ideal) S_ .f32 0x7F800000#32) (constantI S_ 32 0#32) reducesTo_S16384x1024_S16384_d1 h_S_ (ix1 R) ⊤ 0#32
    ofBits_inf rfl
  obtain ⟨k, hk, hk'⟩ := foldl_isFirstMin reducer_mem reducer_noLater (fun j => d (ix2 R j)) L
    (fun p => (hL p).trans (mem_fiber d R p))
  exact ⟨k, hk, (congrFun (argmin_eq d) (ix1 R)).trans ((congrArg Prod.snd hf).trans hk')⟩

/-- Different column numbers are different words. -/
theorem ofNat_inj {j k : Fin 1024} (h : BitVec.ofNat 32 (j : ℕ) = BitVec.ofNat 32 (k : ℕ)) : j = k := by
  have := congrArg BitVec.toInt h
  rw [toInt_ofNat, toInt_ofNat] at this
  exact Fin.ext (by exact_mod_cast this)

open Classical in

/-- The fourth result: the one-hot rows of the nearest codes. -/
theorem codes_at (A : FVec Ideal S16x64x32x32 .f32) (e : FVec Ideal S1024x64 .f32) (R : Fin 16384) (k : Fin 1024) :
    codes A e (ix2 R k) = code (rowsOf A R) (tab e) k := by
  obtain ⟨l, hl, he⟩ := argmin_at (dists (rows A) e) R
  simp only [dists_at, rows_at] at hl
  unfold codes code hot
  rw [oneHot_at, he]
  refine if_congr ⟨fun h => ?_, fun h => ?_⟩ rfl rfl
  · exact ofNat_inj h ▸ hl
  · rw [hl.unique h]

/-! ## The other three results -/

/-- The product of one-hot rows and table, at one index. -/
theorem picked_at (h : FVec Ideal S16384x1024 .f32) (e : FVec Ideal S1024x64 .f32) (n : Fin 16) (y x : Fin 32) (c : Fin 64) :
    picked h e (ix4 n y x c) = ∑ k : Fin 1024, h (ix2 (rowIx n y x) k) * tab e k c := by
  pointwise [picked, tab, rowIx]

/-- The chosen code of a pixel is its nearest code. -/
theorem quant_at (A : FVec Ideal S16x64x32x32 .f32) (e : FVec Ideal S1024x64 .f32) (n : Fin 16) (y x : Fin 32) (c : Fin 64) :
    picked (codes A e) e (ix4 n y x c) = quant (rowsOf A (rowIx n y x)) (tab e) c := by
  rw [picked_at]; unfold quant
  exact Finset.sum_congr rfl fun k _ => by rw [codes_at]

/-- The second result: each pixel plus its difference to its nearest code. -/
theorem straight_at (A : FVec Ideal S16x64x32x32 .f32) (e : FVec Ideal S1024x64 .f32) (n : Fin 16) (y x : Fin 32) (c : Fin 64) :
    straightOf (last A) (picked (codes A e) e) (ix4 n c y x) = straight (rowsOf A (rowIx n y x)) (tab e) c := by
  pointwise [straightOf]
  rw [quant_at, last_at, ← rowsOf_rowIx A]; rfl

/-- A sum over images, rows, columns and channels is a sum over pixels and channels. -/
theorem sum_pixels (f : Fin 16384 → Fin 64 → EReal) :
    ∑ n : Fin 16, ∑ y : Fin 32, ∑ x : Fin 32, ∑ c : Fin 64, f (rowIx n y x) c = ∑ R, ∑ c, f R c := by
  refine (Finset.sum_congr rfl fun n _ => ?_).trans
    (Fin.sum_mul_add_congr (S := 16) (n := 1024) (F := fun n p => ∑ c, f ⟨(n : ℕ) * 1024 + p, by omega⟩ c) fun n p hl => rfl)
  exact Fin.sum_mul_add_congr fun y x hl => by simp only [rowIx, Nat.add_assoc]

/-- The first result: the loss. -/
theorem loss_at (A : FVec Ideal S16x64x32x32 .f32) (e : FVec Ideal S1024x64 .f32) :
    lossOf (last A) (picked (codes A e) e) ix0 = loss (rowsOf A) (tab e) := by
  unfold loss
  rw [← sum_pixels]
  pointwise [lossOf]
  rw [Ideal.hostReduceAdd_total _ (fun b => b.elim0), zero_add, sum_idx4]
  simp only [mulf, subf, quant_at, last_at, ← rowsOf_rowIx A]
  rfl

/-- The share of code `k`: the sum of its column over the number of rows. -/
theorem shareOf_at (h : FVec Ideal S16384x1024 .f32) (k : Fin 1024) :
    shareOf h (ix1 k) = Ideal.div (∑ R, h (ix2 R k)) (Ideal.ofBits .f32 0x46800000#32) := by
  pointwise [shareOf]

/-- The third result: the perplexity. -/
theorem perplexity_at (A : FVec Ideal S16x64x32x32 .f32) (e : FVec Ideal S1024x64 .f32) :
    perplexityOf (shareOf (codes A e)) ix0 = perplexity (rowsOf A) (tab e) := by
  pointwise [perplexityOf, shareOf_at, codes_at, perplexity, share]

end Cert.ReferenceIdeal.Value
end
-- ==== Proof.RefRun.lean ====
/- The reference program's run: what each of its four results holds at the end. -/
module

public import proofs.«01_k».proof.Proof.RefValue
public import Idealize.ShloMosaic.Lib.Claim

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.Nearest

variable (m : (ℓ : Loc nD τ sig) → Buf (Elt Ideal) ℓ) (g : Dev nD → PrngReg)

set_option maxHeartbeats 1600000 in

/-- Every execution of the reference ends; its results hold the named terms over the arguments, which are unchanged. -/
theorem run : θ_run (defs (F := Ideal)) (onTc (τ := τ) (main (F := Ideal))) ⟨m, fun _ => 0, g⟩ (fun r => ∀ c : Dev nD,
      r.2.mem ((c.tc : Thread nD τ).loc main_v24)
        = lossOf (last (m ((c.tc : Thread nD τ).loc main_arg0)))
            (picked (codes (m ((c.tc : Thread nD τ).loc main_arg0)) (m ((c.tc : Thread nD τ).loc main_arg1))) (m ((c.tc : Thread nD τ).loc main_arg1)))
      ∧ r.2.mem ((c.tc : Thread nD τ).loc main_v37)
        = straightOf (last (m ((c.tc : Thread nD τ).loc main_arg0)))
            (picked (codes (m ((c.tc : Thread nD τ).loc main_arg0)) (m ((c.tc : Thread nD τ).loc main_arg1))) (m ((c.tc : Thread nD τ).loc main_arg1)))
      ∧ r.2.mem ((c.tc : Thread nD τ).loc main_v36)
        = perplexityOf (shareOf (codes (m ((c.tc : Thread nD τ).loc main_arg0)) (m ((c.tc : Thread nD τ).loc main_arg1))))
      ∧ r.2.mem ((c.tc : Thread nD τ).loc main_v17)
        = codes (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  all_goals
    simp only [StableHlo.TRef.ofBuf_toBuf]
    simp -implicitDefEqProofs only [StableHlo.TRef.toBuf, StableHlo.TRef.ofBuf, cast_eq]
    simp -implicitDefEqProofs only [perplexityOf, shareOf, lossOf, straightOf, picked, codes, oneHot, argmin_eq, dists, rows, last]
    rfl

end Cert.ReferenceIdeal.Value
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Run
public import proofs.«01_k».proof.Proof.Results
public import proofs.«01_k».proof.Proof.RefRun
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

/-- The reference runs, leaves its arguments as they were and every counter at zero. -/
theorem frame_reference : Cert.quiescent_ReferenceIdeal (hReferenceIdeal := Cert.ReferenceIdeal.Gen.facts) := fun m g _ =>
  (θ_run Cert.ReferenceIdeal.defs _ _).mono
    (fun r h => ⟨fun c => (h c).2.2.2.2, sem_eq_zero_of_no_sems (by decide) r.2⟩)
    (Cert.ReferenceIdeal.Value.run m g)

section Equal

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- The kernel's images. -/
abbrev images : FVec Ideal Cert.ReferenceIdeal.S16x64x32x32 .f32 := m ((c : Thread Cert.KernelIdeal.nD Cert.KernelIdeal.τ).loc Cert.KernelIdeal.main_arg0)

/-- The kernel's table of codes. -/
abbrev table : FVec Ideal Cert.ReferenceIdeal.S1024x64 .f32 := m ((c : Thread Cert.KernelIdeal.nD Cert.KernelIdeal.τ).loc Cert.KernelIdeal.main_arg1)

open Cert.ReferenceIdeal.Value in
/-- The two programs' losses are equal. -/
theorem loss_eq : lossOf (last (images m c)) (picked (codes (images m c) (table m c)) (table m c))
    = Cert.KernelIdeal.Gen.W4 m ρ c Cert.KernelIdeal.main_v0_0 := by
  funext i
  obtain rfl : i = ix0 := funext fun a => a.elim0
  exact (loss_at _ _).trans (Cert.KernelIdeal.Results.loss_at m ρ c _).symm

open Cert.ReferenceIdeal.Value in
/-- The two programs' quantized images are equal. -/
theorem straight_eq : straightOf (last (images m c)) (picked (codes (images m c) (table m c)) (table m c))
    = Cert.KernelIdeal.Gen.W4 m ρ c Cert.KernelIdeal.main_v0_1 := by
  funext i
  obtain ⟨n, k, y, x, rfl⟩ : ∃ n k y x, i = ix4 n k y x := ⟨_, _, _, _, eq_ix4 i⟩
  exact (straight_at _ _ n y x k).trans (Cert.KernelIdeal.Results.quantized_at m ρ c n k y x).symm

open Cert.ReferenceIdeal.Value in
/-- The two programs' perplexities are equal. -/
theorem perplexity_eq : perplexityOf (shareOf (codes (images m c) (table m c)))
    = Cert.KernelIdeal.Gen.W4 m ρ c Cert.KernelIdeal.main_v0_2 := by
  funext i
  obtain rfl : i = ix0 := funext fun a => a.elim0
  exact (perplexity_at _ _).trans (Cert.KernelIdeal.Results.perplexity_at m ρ c _).symm

open Cert.ReferenceIdeal.Value in
/-- The two programs' one-hot encodings are equal. -/
theorem codes_eq : codes (images m c) (table m c) = Cert.KernelIdeal.Gen.W4 m ρ c Cert.KernelIdeal.main_v0_3 := by
  funext i
  obtain ⟨R, k, rfl⟩ : ∃ R k, i = ix2 R k := ⟨_, _, eq_ix2 i⟩
  exact (codes_at _ _ R k).trans (Cert.KernelIdeal.Results.encodings_at m ρ c R k).symm

end Equal

/-- From equal arguments the kernel and the reference end with equal results, all four of them. -/
theorem equal : Cert.algebraic_KernelIdeal_ReferenceIdeal (hKernelIdeal := Cert.KernelIdeal.Gen.facts)
    (hReferenceIdeal := Cert.ReferenceIdeal.Gen.facts) := fun m g m' g' _ hagree =>
  ⟨_, _, _, _, Cert.KernelIdeal.Run.run m g,
    (θ_run Cert.ReferenceIdeal.defs _ _).mono (fun r h c => by
      obtain ⟨h0, h1, h2, h3, h4, h5⟩ := h c
      rw [(hagree c).1, (hagree c).2] at h0 h1 h2 h3
      exact ⟨h0.trans (loss_eq m g c), h1.trans (straight_eq m g c), h2.trans (perplexity_eq m g c),
        h3.trans (codes_eq m g c), h4, h5⟩)
    (Cert.ReferenceIdeal.Value.run m' g')⟩

/-- Everything the certificate claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, equal⟩

end Cert.Proof

end
